-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S1x4096x1 : Shape := ⟨3, ![1, 4096, 1]⟩
abbrev S2048x1792 : Shape := ⟨2, ![2048, 1792]⟩
abbrev S1792 : Shape := ⟨1, ![1792]⟩
abbrev S4096x2048 : Shape := ⟨2, ![4096, 2048]⟩
abbrev S4096x1 : Shape := ⟨2, ![4096, 1]⟩
abbrev S1x1792 : Shape := ⟨2, ![1, 1792]⟩
abbrev S4096x1792 : Shape := ⟨2, ![4096, 1792]⟩
abbrev S4096x14 : Shape := ⟨2, ![4096, 14]⟩
abbrev S512x2048 : Shape := ⟨2, ![512, 2048]⟩
abbrev S512x1 : Shape := ⟨2, ![512, 1]⟩
abbrev S512x1792 : Shape := ⟨2, ![512, 1792]⟩
abbrev S512x14 : Shape := ⟨2, ![512, 14]⟩
abbrev S2048x256 : Shape := ⟨2, ![2048, 256]⟩
abbrev S512x256 : Shape := ⟨2, ![512, 256]⟩
abbrev S1x256 : Shape := ⟨2, ![1, 256]⟩
abbrev S512x128 : Shape := ⟨2, ![512, 128]⟩
abbrev S512 : Shape := ⟨1, ![512]⟩

abbrev nBuf : Space → Nat
  | .hbm => 12
  | .vmem => 12
  | .smem => 0
  | _ => 0

abbrev bufTy : (tb : Table) → Fin (tcTables nBuf tb) → BufTy
  | .hbm, ⟨0, _⟩ => ⟨S1x4096x2048, .fp8e4m3⟩
  | .hbm, ⟨1, _⟩ => ⟨S1x4096x1, .f32⟩
  | .hbm, ⟨2, _⟩ => ⟨S2048x1792, .fp8e4m3⟩
  | .hbm, ⟨3, _⟩ => ⟨S1792, .f32⟩
  | .hbm, ⟨4, _⟩ => ⟨S2048x1792, .fp8e4m3⟩
  | .hbm, ⟨5, _⟩ => ⟨S1792, .f32⟩
  | .hbm, ⟨6, _⟩ => ⟨S4096x2048, .fp8e4m3⟩
  | .hbm, ⟨7, _⟩ => ⟨S4096x1, .f32⟩
  | .hbm, ⟨8, _⟩ => ⟨S1x1792, .f32⟩
  | .hbm, ⟨9, _⟩ => ⟨S1x1792, .f32⟩
  | .hbm, ⟨10, _⟩ => ⟨S4096x1792, .fp8e4m3⟩
  | .hbm, ⟨11, _⟩ => ⟨S4096x14, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S512x1, .f32⟩
  | .local _ .vmem, ⟨3, _⟩ => ⟨S512x1, .f32⟩
  | .local _ .vmem, ⟨4, _⟩ => ⟨S2048x1792, .fp8e4m3⟩
  | .local _ .vmem, ⟨5, _⟩ => ⟨S1x1792, .f32⟩
  | .local _ .vmem, ⟨6, _⟩ => ⟨S2048x1792, .fp8e4m3⟩
  | .local _ .vmem, ⟨7, _⟩ => ⟨S1x1792, .f32⟩
  | .local _ .vmem, ⟨8, _⟩ => ⟨S512x1792, .fp8e4m3⟩
  | .local _ .vmem, ⟨9, _⟩ => ⟨S512x1792, .fp8e4m3⟩
  | .local _ .vmem, ⟨10, _⟩ => ⟨S512x14, .f32⟩
  | .local _ .vmem, ⟨11, _⟩ => ⟨S512x14, .f32⟩
  | _, _ => ⟨S1x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1792 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x14 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S1x4096x2048 : Shape := ⟨3, ![1, 4096, 2048]⟩
abbrev S1x4096x1 : Shape := ⟨3, ![1, 4096, 1]⟩
abbrev S2048x1792 : Shape := ⟨2, ![2048, 1792]⟩
abbrev S1792 : Shape := ⟨1, ![1792]⟩
abbrev S4096x1792 : Shape := ⟨2, ![4096, 1792]⟩
abbrev S4096x14 : Shape := ⟨2, ![4096, 14]⟩
abbrev S4096x2048 : Shape := ⟨2, ![4096, 2048]⟩
abbrev S4096x1 : Shape := ⟨2, ![4096, 1]⟩
abbrev S1x1792 : Shape := ⟨2, ![1, 1792]⟩
abbrev S4096x14x128 : Shape := ⟨3, ![4096, 14, 128]⟩
abbrev S4096x14x1 : Shape := ⟨3, ![4096, 14, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x4096x2048, .fp8e4m3⟩
  | .hbm, ⟨1, _⟩ => ⟨S1x4096x1, .f32⟩
  | .hbm, ⟨2, _⟩ => ⟨S2048x1792, .fp8e4m3⟩
  | .hbm, ⟨3, _⟩ => ⟨S1792, .f32⟩
  | .hbm, ⟨4, _⟩ => ⟨S2048x1792, .fp8e4m3⟩
  | .hbm, ⟨5, _⟩ => ⟨S1792, .f32⟩
  | .hbm, ⟨6, _⟩ => ⟨S4096x1792, .fp8e4m3⟩
  | .hbm, ⟨7, _⟩ => ⟨S4096x14, .f32⟩
  | .local _ .vmem, ⟨0, _⟩ => ⟨S1x4096x2048, .fp8e4m3⟩
  | .local _ .vmem, ⟨1, _⟩ => ⟨S1x4096x1, .f32⟩
  | .local _ .vmem, ⟨2, _⟩ => ⟨S2048x1792, .fp8e4m3⟩
  | .local _ .vmem, ⟨3, _⟩ => ⟨S1792, .f32⟩
  | .local _ .vmem, ⟨4, _⟩ => ⟨S2048x1792, .fp8e4m3⟩
  | .local _ .vmem, ⟨5, _⟩ => ⟨S1792, .f32⟩
  | .local _ .vmem, ⟨6, _⟩ => ⟨S4096x1792, .fp8e4m3⟩
  | .local _ .vmem, ⟨7, _⟩ => ⟨S4096x14, .f32⟩
  | _, _ => ⟨S1x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1792 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x14 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pieces.lean ====
module

public import proofs.«01_k».proof.Proof.Gen.KernelIdeal.Frame

/-!
The kernel body's two blocks, written with one function for all fourteen groups.

The generated block lists fourteen stores whose values are cut up differently from group to group.  Each of
them is the same function of the group's 128 columns of the hidden block; the columns come in seven chunks of
256, and a group is the lower or the upper half of its chunk.
-/

@[expose] public section

noncomputable section

namespace Cert.Proof.Kernel
open Idealize.ShloMosaic Idealize.SL.Sem
open Cert.KernelIdeal Cert.KernelIdeal.Gen

variable {F : FTy → Type} [FloatOps F] [Named F]

/-- A chunk of 256 columns of the hidden block, from column `o` on. -/
def chunk (x0 : Vec F S512x2048 .fp8e4m3) (x1 : Vec F S512x1 .f32) (x2 : Vec F S2048x1792 .fp8e4m3) (x3 : Vec F S1x1792 .f32)
    (x4 : Vec F S2048x1792 .fp8e4m3) (x5 : Vec F S1x1792 .f32) (o : Nat)
    (h : ∀ a, (![0, o] : Fin 2 → Nat) a + S2048x256.size a ≤ S2048x1792.size a)
    (h' : ∀ a, (![0, o] : Fin 2 → Nat) a + S1x256.size a ≤ S1x1792.size a) : FVec F S512x256 .f32 :=
  k0_pay3 (View.ld x0 r0_0) (View.ld x1 r0_1)
    (View.ld x2 (Rect.unit (s := S2048x1792) ![0, o] S2048x256.size h))
    (View.ld x4 (Rect.unit (s := S2048x1792) ![0, o] S2048x256.size h))
    (View.ld x3 (Rect.unit (s := S1x1792) ![0, o] S1x256.size h'))
    (View.ld x5 (Rect.unit (s := S1x1792) ![0, o] S1x256.size h'))

/-- The chunk's lower 128 columns. -/
def lo (x : FVec F S512x256 .f32) : FVec F S512x128 .f32 :=
  extractStridedSlice S512x128 ![0, 0] x slices_S512x256_o0_0_S512x128

/-- The chunk's upper 128 columns. -/
def hi (x : FVec F S512x256 .f32) : FVec F S512x128 .f32 :=
  extractStridedSlice S512x128 ![0, 128] x slices_S512x256_o0_128_S512x128

/-- The group's largest magnitude in each row over 448. -/
def ampV (x : FVec F S512x128 .f32) : FVec F S512x1 .f32 :=
  absf (mulf (shapeCast S512x1 (multiReduction .maximumf [1] S512 (absf x) 0xFF800000#32 reduces_S512x128_S512 (.inl rfl) rfl)
    shapeCasts_S512_S512x1) (broadcast S512x1 (Scalar.ofBits .f32 0x3B124925#32)))

/-- The group's scales. -/
def scaleV (x : FVec F S512x128 .f32) : FVec F S512x1 .f32 :=
  k0_pay12 (k0_pay8 (ampV x) k0_pay6 k0_pay7) (k0_pay9 (ampV x) k0_pay6 k0_pay7) k0_pay10

/-- The group's codes. -/
def codesV (x : FVec F S512x128 .f32) : FVec F S512x128 .fp8e4m3 :=
  k0_pay13 x (k0_pay8 (ampV x) k0_pay6 k0_pay7) (k0_pay9 (ampV x) k0_pay6 k0_pay7) k0_pay10

variable (x0 : Vec F S512x2048 .fp8e4m3) (x1 : Vec F S512x1 .f32) (x2 : Vec F S2048x1792 .fp8e4m3) (x3 : Vec F S1x1792 .f32)
    (x4 : Vec F S2048x1792 .fp8e4m3) (x5 : Vec F S1x1792 .f32)

set_option maxRecDepth 65536 in
/-- The block of codes. -/
theorem out6_eq : out0_6 x0 x1 x2 x3 x4 x5 = View.canon [
    ⟨r0_42, codesV (hi (chunk x0 x1 x2 x3 x4 x5 1536 inb_S2048x1792_S2048x256_0_1536 inb_S1x1792_S1x256_0_1536))⟩,
    ⟨r0_40, codesV (lo (chunk x0 x1 x2 x3 x4 x5 1536 inb_S2048x1792_S2048x256_0_1536 inb_S1x1792_S1x256_0_1536))⟩,
    ⟨r0_36, codesV (hi (chunk x0 x1 x2 x3 x4 x5 1280 inb_S2048x1792_S2048x256_0_1280 inb_S1x1792_S1x256_0_1280))⟩,
    ⟨r0_34, codesV (lo (chunk x0 x1 x2 x3 x4 x5 1280 inb_S2048x1792_S2048x256_0_1280 inb_S1x1792_S1x256_0_1280))⟩,
    ⟨r0_30, codesV (hi (chunk x0 x1 x2 x3 x4 x5 1024 inb_S2048x1792_S2048x256_0_1024 inb_S1x1792_S1x256_0_1024))⟩,
    ⟨r0_28, codesV (lo (chunk x0 x1 x2 x3 x4 x5 1024 inb_S2048x1792_S2048x256_0_1024 inb_S1x1792_S1x256_0_1024))⟩,
    ⟨r0_24, codesV (hi (chunk x0 x1 x2 x3 x4 x5 768 inb_S2048x1792_S2048x256_0_768 inb_S1x1792_S1x256_0_768))⟩,
    ⟨r0_22, codesV (lo (chunk x0 x1 x2 x3 x4 x5 768 inb_S2048x1792_S2048x256_0_768 inb_S1x1792_S1x256_0_768))⟩,
    ⟨r0_18, codesV (hi (chunk x0 x1 x2 x3 x4 x5 512 inb_S2048x1792_S2048x256_0_512 inb_S1x1792_S1x256_0_512))⟩,
    ⟨r0_16, codesV (lo (chunk x0 x1 x2 x3 x4 x5 512 inb_S2048x1792_S2048x256_0_512 inb_S1x1792_S1x256_0_512))⟩,
    ⟨r0_12, codesV (hi (chunk x0 x1 x2 x3 x4 x5 256 inb_S2048x1792_S2048x256_0_256 inb_S1x1792_S1x256_0_256))⟩,
    ⟨r0_10, codesV (lo (chunk x0 x1 x2 x3 x4 x5 256 inb_S2048x1792_S2048x256_0_256 inb_S1x1792_S1x256_0_256))⟩,
    ⟨r0_6, codesV (hi (chunk x0 x1 x2 x3 x4 x5 0 inb_S2048x1792_S2048x256_0_0 inb_S1x1792_S1x256_0_0))⟩,
    ⟨r0_4, codesV (lo (chunk x0 x1 x2 x3 x4 x5 0 inb_S2048x1792_S2048x256_0_0 inb_S1x1792_S1x256_0_0))⟩] := rfl

set_option maxRecDepth 65536 in
/-- The block of scales. -/
theorem out7_eq : out0_7 x0 x1 x2 x3 x4 x5 = View.canon [
    ⟨r0_43, scaleV (hi (chunk x0 x1 x2 x3 x4 x5 1536 inb_S2048x1792_S2048x256_0_1536 inb_S1x1792_S1x256_0_1536))⟩,
    ⟨r0_41, scaleV (lo (chunk x0 x1 x2 x3 x4 x5 1536 inb_S2048x1792_S2048x256_0_1536 inb_S1x1792_S1x256_0_1536))⟩,
    ⟨r0_37, scaleV (hi (chunk x0 x1 x2 x3 x4 x5 1280 inb_S2048x1792_S2048x256_0_1280 inb_S1x1792_S1x256_0_1280))⟩,
    ⟨r0_35, scaleV (lo (chunk x0 x1 x2 x3 x4 x5 1280 inb_S2048x1792_S2048x256_0_1280 inb_S1x1792_S1x256_0_1280))⟩,
    ⟨r0_31, scaleV (hi (chunk x0 x1 x2 x3 x4 x5 1024 inb_S2048x1792_S2048x256_0_1024 inb_S1x1792_S1x256_0_1024))⟩,
    ⟨r0_29, scaleV (lo (chunk x0 x1 x2 x3 x4 x5 1024 inb_S2048x1792_S2048x256_0_1024 inb_S1x1792_S1x256_0_1024))⟩,
    ⟨r0_25, scaleV (hi (chunk x0 x1 x2 x3 x4 x5 768 inb_S2048x1792_S2048x256_0_768 inb_S1x1792_S1x256_0_768))⟩,
    ⟨r0_23, scaleV (lo (chunk x0 x1 x2 x3 x4 x5 768 inb_S2048x1792_S2048x256_0_768 inb_S1x1792_S1x256_0_768))⟩,
    ⟨r0_19, scaleV (hi (chunk x0 x1 x2 x3 x4 x5 512 inb_S2048x1792_S2048x256_0_512 inb_S1x1792_S1x256_0_512))⟩,
    ⟨r0_17, scaleV (lo (chunk x0 x1 x2 x3 x4 x5 512 inb_S2048x1792_S2048x256_0_512 inb_S1x1792_S1x256_0_512))⟩,
    ⟨r0_13, scaleV (hi (chunk x0 x1 x2 x3 x4 x5 256 inb_S2048x1792_S2048x256_0_256 inb_S1x1792_S1x256_0_256))⟩,
    ⟨r0_11, scaleV (lo (chunk x0 x1 x2 x3 x4 x5 256 inb_S2048x1792_S2048x256_0_256 inb_S1x1792_S1x256_0_256))⟩,
    ⟨r0_7, scaleV (hi (chunk x0 x1 x2 x3 x4 x5 0 inb_S2048x1792_S2048x256_0_0 inb_S1x1792_S1x256_0_0))⟩,
    ⟨r0_5, scaleV (lo (chunk x0 x1 x2 x3 x4 x5 0 inb_S2048x1792_S2048x256_0_0 inb_S1x1792_S1x256_0_0))⟩] := rfl

end Cert.Proof.Kernel
-- ==== Proof.Scale.lean ====
module

public import Idealize.ShloMosaic.PureOps.Ideal.Laws
public import Mathlib.Analysis.SpecialFunctions.Pow.Real

/-!
The power-of-two scale of one group, on one number.

`v` is the group's largest magnitude divided by 448.  The kernel finds the exponent field of `v` by eight
comparisons and builds the scale and its inverse out of integers; the reference takes `⌊log₂ v⌋ + 1` and
raises two to it.  Here the two are proved equal for every `v ≥ 0`.
-/

@[expose] public section

noncomputable section

namespace Cert.Proof.Scale
open Idealize.ShloMosaic

/-! ### The words the programs spell out -/

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_ninf : Ideal.ofBits .f32 0xFF800000#32 = ⊥ := by
  simp [Ideal.ofBits, Ideal.ieee, -EReal.coe_mul]

/-- The word of `1 / 448` is a positive number. -/
theorem ofBits_inv448_nonneg : 0 ≤ Ideal.ofBits .f32 0x3B124925#32 := by
  simp [Ideal.ofBits, Ideal.ieee, -EReal.coe_mul]

/-- The word whose exponent field is `k` and whose other bits are zero. -/
def word (k : Nat) : BitVec 32 := BitVec.ofNat 32 (k * 8388608)

theorem word_toNat {k : Nat} (h : k < 256) : (word k).toNat = k * 8388608 := by
  unfold word; rw [BitVec.toNat_ofNat]; omega

/-- The word with exponent field `k` denotes `2 ^ (k - 127)`. -/
theorem ofBits_word {k : Nat} (h0 : 1 ≤ k) (h1 : k ≤ 254) :
    Ideal.ofBits .f32 (word k) = (((2 : ℝ) ^ ((k : ℤ) - 127) : ℝ) : EReal) := by
  have hn := word_toNat (k := k) (by omega)
  have e1 : ((word k).extractLsb' 31 1).toNat = 0 := by
    rw [BitVec.extractLsb'_toNat, hn, Nat.shiftRight_eq_div_pow]; omega
  have e2 : ((word k).extractLsb' 23 8).toNat = k := by
    rw [BitVec.extractLsb'_toNat, hn, Nat.shiftRight_eq_div_pow]; omega
  have e3 : ((word k).extractLsb' 0 23).toNat = 0 := by
    rw [BitVec.extractLsb'_toNat, hn, Nat.shiftRight_eq_div_pow]; omega
  simp only [Ideal.ofBits, Ideal.ieee]
  rw [e2, e3]
  have e1' : ((word k).extractLsb' 31 1 == 1#1) = false := by
    rw [beq_eq_false_iff_ne]; intro h; rw [h] at e1; exact absurd e1 (by decide)
  rw [e1', if_neg (by omega), if_neg (by omega)]
  rw [show ((k : ℤ) - 127) = ((k : ℤ) - (2 ^ (8 - 1) - 1) - (23 : ℕ)) + 23 by norm_num,
    zpow_add₀ (by norm_num : (2 : ℝ) ≠ 0)]
  norm_num
  rw [mul_comm]

theorem ofBits_word_255 : Ideal.ofBits .f32 (word 255) = ⊤ := by
  simp [word, Ideal.ofBits, Ideal.ieee, -EReal.coe_mul]

theorem ofBits_word_zero : Ideal.ofBits .f32 (word 0) = 0 := ofBits_zero

theorem word_add {a b : Nat} : word a + word b = word (a + b) := by
  unfold word; rw [← BitVec.ofNat_add, Nat.add_mul]

/-! ### The search for the exponent field -/

/-- One comparison: the bit `b` is set when `v` is at least the number it makes. -/
def step (v : EReal) (e b : BitVec 32) : BitVec 32 :=
  Scalar.select (Ideal.cmp .oge v (Ideal.ofBits .f32 (e + b))) (e + b) e

/-- The eight comparisons, from the top bit of the exponent field down. -/
def search (v : EReal) : BitVec 32 :=
  step v (step v (step v (step v (step v (step v (step v (step v 0#32
    1073741824#32) 536870912#32) 268435456#32) 134217728#32) 67108864#32) 33554432#32) 16777216#32) 8388608#32

/-- What holds of the field found so far, `n` being the number of fields still open: it is `word a`, `v` is at
    least its number, and the next field that has been ruled out is `a + n`. -/
def Found (v : EReal) (e : BitVec 32) (n : Nat) : Prop :=
  ∃ a : Nat, e = word a ∧ a + n ≤ 256 ∧ Ideal.ofBits .f32 (word a) ≤ v
    ∧ (a + n = 256 ∨ v < Ideal.ofBits .f32 (word (a + n)))

theorem select_ofBool {α : Type} (p : Prop) [Decidable p] (a b : α) :
    Scalar.select (BitVec.ofBool (decide p)) a b = if p then a else b := by
  unfold Scalar.select
  by_cases h : p <;> simp [h]

theorem cmp_oge (x y : EReal) : Ideal.cmp .oge x y = BitVec.ofBool (decide (y ≤ x)) := rfl
theorem cmp_olt (x y : EReal) : Ideal.cmp .olt x y = BitVec.ofBool (decide (x < y)) := rfl

theorem found_step {v : EReal} {e : BitVec 32} {n : Nat} (h : Found v e (n + n)) :
    Found v (step v e (word n)) n := by
  obtain ⟨a, rfl, hle, hlo, hhi⟩ := h
  unfold step
  rw [cmp_oge, select_ofBool, word_add]
  split
  · next hv =>
    exact ⟨a + n, rfl, by omega, hv, by rwa [Nat.add_assoc]⟩
  · next hv =>
    exact ⟨a, rfl, by omega, hlo, .inr (not_le.mp hv)⟩

theorem found_search {v : EReal} (h : 0 ≤ v) : Found v (search v) 1 := by
  have h0 : Found v 0#32 (128 + 128) := ⟨0, rfl, by omega, by rw [ofBits_word_zero]; exact h, .inl rfl⟩
  exact found_step (n := 1) <| found_step (n := 2) <| found_step (n := 4) <| found_step (n := 8) <|
    found_step (n := 16) <| found_step (n := 32) <| found_step (n := 64) <| found_step (n := 128) h0

/-! ### The two programs' scales -/

/-- The exponent field the kernel works with. -/
def field (v : EReal) : BitVec 32 :=
  Scalar.select (Ideal.cmp .olt v (Ideal.ofBits .f32 0x7B800000#32)) (search v) 2139095040#32

/-- The bits of the kernel's scale. -/
def pow (v : EReal) : BitVec 32 :=
  Scalar.select (IntOp.cmpi .ult (field v - 8388608#32) 2130706432#32) (field v + 8388608#32) 1065353216#32

/-- The kernel's scale. -/
def kScale (v : EReal) : EReal := Ideal.ofBits .f32 (pow v)

/-- The kernel's inverse scale. -/
def kInv (v : EReal) : EReal := Ideal.ofBits .f32 (2130706432#32 - pow v)

/-- The reference's exponent. -/
def rExp (v : EReal) : EReal :=
  Scalar.select (Ideal.cmp .olt v (Ideal.ofBits .f32 0x00800000#32) ||| Ideal.cmp .oge v (Ideal.ofBits .f32 0x7B800000#32))
    ((((0#32 : BitVec 32).toInt : ℝ) : EReal))
    (Ideal.liftRound Int.floor (Ideal.div (Ideal.log v) (Ideal.log (Ideal.ofBits .f32 0x40000000#32)))
      + Ideal.ofBits .f32 0x3F800000#32)

/-- The reference's scale. -/
def rScale (v : EReal) : EReal := Ideal.exp2 (rExp v)

/-- The reference's inverse scale. -/
def rInv (v : EReal) : EReal := Ideal.exp2 (Ideal.ofBits .f32 0x00000000#32 - rExp v)

theorem ofBits_tiny : Ideal.ofBits .f32 0x00800000#32 = (((2 : ℝ) ^ (-126 : ℤ) : ℝ) : EReal) :=
  (ofBits_word (k := 1) (by omega) (by omega)).trans (by norm_num)

theorem ofBits_huge : Ideal.ofBits .f32 0x7B800000#32 = (((2 : ℝ) ^ (120 : ℤ) : ℝ) : EReal) :=
  (ofBits_word (k := 247) (by omega) (by omega)).trans (by norm_num)

theorem exp2_zpow (n : ℤ) : Ideal.exp2 (((n : ℝ)) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

/-- Outside the normal range below `2 ^ 120` the exponent is zero. -/
theorem rExp_out {v : EReal} (h : v < Ideal.ofBits .f32 0x00800000#32 ∨ Ideal.ofBits .f32 0x7B800000#32 ≤ v) :
    rExp v = ((0 : ℝ) : EReal) := by
  unfold rExp
  rw [cmp_olt, cmp_oge]
  have : (BitVec.ofBool (decide (v < Ideal.ofBits .f32 0x00800000#32)) |||
      BitVec.ofBool (decide (Ideal.ofBits .f32 0x7B800000#32 ≤ v))) = 1#1 := by
    rcases h with h | h
    · rw [decide_eq_true h]; cases decide (Ideal.ofBits .f32 0x7B800000#32 ≤ v) <;> rfl
    · rw [decide_eq_true h]; cases decide (v < Ideal.ofBits .f32 0x00800000#32) <;> rfl
  rw [this]
  simp [Scalar.select]

/-- Inside it, with `2 ^ n ≤ v < 2 ^ (n + 1)`, it is `n + 1`. -/
theorem rExp_in {v : EReal} {n : ℤ} (h1 : Ideal.ofBits .f32 0x00800000#32 ≤ v) (h2 : v < Ideal.ofBits .f32 0x7B800000#32)
    (hlo : (((2 : ℝ) ^ n : ℝ) : EReal) ≤ v) (hhi : v < (((2 : ℝ) ^ (n + 1) : ℝ) : EReal)) :
    rExp v = (((n + 1 : ℤ) : ℝ) : EReal) := by
  unfold rExp
  rw [cmp_olt, cmp_oge, decide_eq_false (not_lt.mpr h1), decide_eq_false (not_le.mpr h2)]
  have hc : (BitVec.ofBool false ||| BitVec.ofBool false) = 0#1 := rfl
  rw [hc, show ∀ a b : EReal, Scalar.select 0#1 a b = b from fun a b => rfl, ofBits_two, ofBits_one]
  induction v with
  | bot => exact absurd hlo (by simp)
  | top => exact absurd hhi (by simp)
  | coe r =>
    have hlo' : (2 : ℝ) ^ n ≤ r := by exact_mod_cast hlo
    have hhi' : r < (2 : ℝ) ^ (n + 1) := by exact_mod_cast hhi
    have hr : 0 < r := lt_of_lt_of_le (by positivity) hlo'
    have hl2 : 0 < Real.log 2 := Real.log_pos (by norm_num)
    have hlog : Ideal.log (r : EReal) = ((Real.log r : ℝ) : EReal) := by
      show (if r ≤ 0 then (⊥ : EReal) else _) = _
      rw [if_neg (not_le.mpr hr)]
    have hlog2 : Ideal.log ((2 : ℝ) : EReal) = ((Real.log 2 : ℝ) : EReal) := by
      show (if (2 : ℝ) ≤ 0 then (⊥ : EReal) else _) = _
      rw [if_neg (by norm_num)]
    have hdiv : Ideal.div ((Real.log r : ℝ) : EReal) ((Real.log 2 : ℝ) : EReal)
        = ((Real.log r / Real.log 2 : ℝ) : EReal) := by
      unfold Ideal.div
      rw [if_neg (by exact_mod_cast hl2.ne'), ← EReal.coe_inv, ← EReal.coe_mul, div_eq_mul_inv]
    have hfl : ⌊Real.log r / Real.log 2⌋ = n := by
      rw [Int.floor_eq_iff]
      constructor
      · rw [le_div_iff₀ hl2, ← Real.log_zpow]
        exact Real.log_le_log (by positivity) hlo'
      · rw [div_lt_iff₀ hl2, show ((n : ℝ) + 1) = ((n + 1 : ℤ) : ℝ) by push_cast; ring, ← Real.log_zpow]
        exact Real.log_lt_log hr hhi'
    rw [hlog, hlog2, hdiv]
    show (((⌊Real.log r / Real.log 2⌋ : ℤ) : ℝ) : EReal) + 1 = _
    rw [hfl]; push_cast; rfl

/-- The bits of the kernel's scale, once the field is known. -/
theorem pow_of_field {v : EReal} {a : Nat} (ha : a < 256) (h : field v = word a) :
    pow v = if 1 ≤ a ∧ a ≤ 254 then word (a + 1) else word 127 := by
  unfold pow
  rw [h]
  show Scalar.select (BitVec.ofBool ((word a - 8388608#32).ult 2130706432#32)) (word a + word 1) (word 127) = _
  have hn := word_toNat ha
  have : (word a - 8388608#32).ult 2130706432#32 = decide (1 ≤ a ∧ a ≤ 254) := by
    rw [BitVec.ult, BitVec.toNat_sub, hn, show (8388608#32).toNat = 8388608 from rfl,
      show (2130706432#32).toNat = 2130706432 from rfl]
    exact decide_eq_decide.mpr (by omega)
  rw [this, select_ofBool, word_add]

theorem word_sub {a : Nat} (h : a ≤ 254) : 2130706432#32 - word a = word (254 - a) := by
  apply BitVec.eq_of_toNat_eq
  rw [BitVec.toNat_sub, word_toNat (by omega), word_toNat (by omega), show (2130706432#32).toNat = 2130706432 from rfl]
  omega

/-- The kernel's scale and its inverse are the reference's. -/
theorem scale_eq {v : EReal} (hv : 0 ≤ v) : kScale v = rScale v ∧ kInv v = rInv v := by
  have ones : rExp v = ((0 : ℝ) : EReal) → pow v = word 127 → kScale v = rScale v ∧ kInv v = rInv v := by
    intro h1 h2
    have e := exp2_zpow 0
    unfold kScale rScale kInv rInv
    rw [h1, h2, word_sub (by omega), show 254 - 127 = 127 from rfl, ofBits_word (by omega) (by omega), ofBits_zero]
    refine ⟨?_, ?_⟩
    · simpa using e.symm
    · simpa using e.symm
  by_cases hh : v < Ideal.ofBits .f32 0x7B800000#32
  · obtain ⟨a, hs, hle, hlo, hhi⟩ := found_search hv
    have hf : field v = word a := by unfold field; rw [cmp_olt, select_ofBool, if_pos hh, hs]
    rcases Nat.eq_zero_or_pos a with rfl | ha
    · refine ones (rExp_out (.inl ?_)) ((pow_of_field (by omega) hf).trans (if_neg (by omega)))
      rcases hhi with h | h
      · omega
      · exact h
    · have ha' : a ≤ 246 := by
        by_contra hc
        rcases Nat.lt_or_ge a 255 with h | h
        · rw [ofBits_word ha (by omega)] at hlo
          rw [ofBits_huge] at hh
          have h3 : (2 : ℝ) ^ ((a : ℤ) - 127) < (2 : ℝ) ^ (120 : ℤ) := by exact_mod_cast lt_of_le_of_lt hlo hh
          have := (zpow_lt_zpow_iff_right₀ (by norm_num : (1 : ℝ) < 2)).mp h3
          omega
        · obtain rfl : a = 255 := by omega
          rw [ofBits_word_255] at hlo
          exact absurd (lt_of_le_of_lt hlo hh) (by simp)
      have hp : pow v = word (a + 1) := (pow_of_field (by omega) hf).trans (if_pos (by omega))
      have hhi : v < Ideal.ofBits .f32 (word (a + 1)) := by
        rcases hhi with h | h
        · omega
        · exact h
      have hlo' := hlo
      rw [ofBits_word ha (by omega)] at hlo
      rw [ofBits_word (by omega) (by omega)] at hhi
      have htiny : Ideal.ofBits .f32 0x00800000#32 ≤ v := by
        refine le_trans ?_ hlo
        rw [ofBits_tiny]
        exact EReal.coe_le_coe_iff.mpr (zpow_le_zpow_right₀ (by norm_num : (1 : ℝ) ≤ 2) (by omega))
      have he := rExp_in (n := (a : ℤ) - 127) htiny hh hlo (by
        rw [show ((a : ℤ) - 127 + 1) = ((a + 1 : ℕ) : ℤ) - 127 by push_cast; ring]; exact hhi)
      unfold kScale rScale kInv rInv
      rw [he, hp, word_sub (by omega), ofBits_word (by omega) (by omega), ofBits_word (by omega) (by omega), ofBits_zero,
        exp2_zpow]
      refine ⟨?_, ?_⟩
      · congr 2; push_cast; ring
      · rw [show (0 : EReal) - (((((a : ℤ) - 127 + 1 : ℤ) : ℝ)) : EReal) = (((-((a : ℤ) - 127 + 1) : ℤ) : ℝ) : EReal) by
          rw [zero_sub, ← EReal.coe_neg]; push_cast; rfl, exp2_zpow]
        congr 2; push_cast [show a + 1 ≤ 254 by omega]; omega
  · have hf : field v = word 255 := by unfold field; rw [cmp_olt, select_ofBool, if_neg hh]; rfl
    exact ones (rExp_out (.inr (not_lt.mp hh))) ((pow_of_field (by omega) hf).trans (if_neg (by omega)))

/-! ### The gate -/

/-- The kernel's gate: `g` times `1 / (1 + 2 ^ (g · (-1 / log 2)))` is `g` times the logistic function of `g`. -/
theorem silu_eq (g : EReal) :
    g * Ideal.div 1 (1 + Ideal.exp2 (g * ((-((Real.log 2)⁻¹) : ℝ) : EReal))) = g * Ideal.logistic g := by
  have hl2 : 0 < Real.log 2 := Real.log_pos (by norm_num)
  have hneg : (-((Real.log 2)⁻¹) : ℝ) < 0 := by have := inv_pos.mpr hl2; linarith
  unfold Ideal.logistic
  congr 3
  induction g with
  | bot => rw [EReal.bot_mul_coe_of_neg hneg]; rfl
  | top => rw [EReal.top_mul_coe_of_neg hneg]; rfl
  | coe r =>
    rw [← EReal.coe_mul, ← EReal.coe_neg]
    show ((Real.rpow 2 (r * -(Real.log 2)⁻¹) : ℝ) : EReal) = ((Real.exp (-r) : ℝ) : EReal)
    rw [show Real.rpow 2 (r * -(Real.log 2)⁻¹) = (2 : ℝ) ^ (r * -(Real.log 2)⁻¹) from rfl,
      Real.rpow_def_of_pos (by norm_num)]
    congr 2
    field_simp

/-- A magnitude is not negative. -/
theorem abs_nonneg (x : EReal) : 0 ≤ max x (-x) := by
  rcases le_total 0 x with h | h
  · exact le_max_of_le_left h
  · exact le_max_of_le_right (EReal.neg_nonneg.mpr h)

/-- A number that is not negative is its own magnitude. -/
theorem abs_of_nonneg {x : EReal} (h : 0 ≤ x) : max x (-x) = x :=
  max_eq_left (le_trans (by rw [EReal.neg_le, neg_zero]; exact h) h)

end Cert.Proof.Scale
-- ==== Proof.Spec.lean ====
module

public import proofs.«01_k».proof.Proof.Scale
public import Idealize.ShloMosaic.Lib.ValueIdx

/-!
What the kernel computes, number by number: the hidden activation, a group's amplitude, its scale and its codes.
-/

@[expose] public section

noncomputable section

namespace Cert.Proof.Spec
open Idealize.ShloMosaic
open Idealize.ShloMosaic.ValueIdx
open Cert.Proof.Scale

/-- One hidden activation from the two projections' sums `a` and `b`, the row's scale and the columns' scales. -/
def hid (a b xs sg su : EReal) : EReal :=
  a * xs * sg * Ideal.logistic (a * xs * sg) * (b * xs * su)

/-- The largest magnitude of a group. -/
def largest (f : Fin 128 → EReal) : EReal :=
  Finset.univ.fold max (Ideal.ofBits .f32 0xFF800000#32) (fun k => max (f k) (-(f k)))

/-- It, over 448. -/
def amp (f : Fin 128 → EReal) : EReal := largest f * Ideal.ofBits .f32 0x3B124925#32

/-- One code: the activation times the group's inverse scale, between -448 and 448. -/
def code (h inv : EReal) : EReal :=
  min (Ideal.ofBits .f32 0x43E00000#32) (max (Ideal.ofBits .f32 0xC3E00000#32) (h * inv))

/-- The hidden activation at a row and a column, from the six arguments. -/
def hidA (a0 : (⟨3, ![1, 4096, 2048]⟩ : Shape).Idx → EReal) (a1 : (⟨3, ![1, 4096, 1]⟩ : Shape).Idx → EReal)
    (a2 : (⟨2, ![2048, 1792]⟩ : Shape).Idx → EReal) (a3 : (⟨1, ![1792]⟩ : Shape).Idx → EReal)
    (a4 : (⟨2, ![2048, 1792]⟩ : Shape).Idx → EReal) (a5 : (⟨1, ![1792]⟩ : Shape).Idx → EReal)
    (r : Fin 4096) (c : Fin 1792) : EReal :=
  hid (∑ k : Fin 2048, a0 (ix3 0 r k) * a2 (ix2 k c)) (∑ k : Fin 2048, a0 (ix3 0 r k) * a4 (ix2 k c))
    (a1 (ix3 0 r 0)) (a3 (ix1 c)) (a5 (ix1 c))

/-- The values of group `j` in row `r`. -/
def grp {n : Nat} (h : Fin n → Fin 1792 → EReal) (r : Fin n) (j : Fin 14) : Fin 128 → EReal :=
  fun k => h r ⟨128 * j.val + k.val, by omega⟩

/-- The codes of a block, from its hidden values. -/
def codeOf {n : Nat} (h : Fin n → Fin 1792 → EReal) (r : Fin n) (c : Fin 1792) : EReal :=
  code (h r c) (rInv (amp (grp h r ⟨c.val / 128, by omega⟩)))

/-- The scales of a block, from its hidden values. -/
def scaleOf {n : Nat} (h : Fin n → Fin 1792 → EReal) (r : Fin n) (j : Fin 14) : EReal :=
  rScale (amp (grp h r j))

theorem largest_nonneg (f : Fin 128 → EReal) : 0 ≤ largest f :=
  le_trans (abs_nonneg (f 0)) (Finset.le_fold_max _ |>.mpr (.inr ⟨0, Finset.mem_univ _, le_rfl⟩))

theorem amp_nonneg (f : Fin 128 → EReal) : 0 ≤ amp f := mul_nonneg (largest_nonneg f) ofBits_inv448_nonneg

end Cert.Proof.Spec
-- ==== Proof.Words.lean ====
module

public import proofs.«01_k».proof.Proof.Pieces
public import proofs.«01_k».proof.Proof.Spec
public import Idealize.ShloMosaic.Lib.Pipeline.ValueKit
public import Idealize.ShloMosaic.Lib.ValueIdx

/-!
The kernel's integer work on one group, index by index.
-/

@[expose] public section

noncomputable section

namespace Cert.Proof.Kernel
open Idealize.ShloMosaic hiding ix1 ix2 ix3
open Idealize.ShloMosaic.ValueIdx Idealize.SL.Sem
open Cert.KernelIdeal Cert.KernelIdeal.Gen
open Cert.Proof.Scale Cert.Proof.Spec

/-- One comparison of the search, on the vector of rows. -/
def stepV (v : FVec Ideal S512x1 .f32) (e : IVec S512x1 32) (b : BitVec 32) : IVec S512x1 32 :=
  select (cmpf .oge v (bitcastToFloat .f32 (addi e (broadcast S512x1 b)))) (addi e (broadcast S512x1 b)) e

theorem stepV_apply (v : FVec Ideal S512x1 .f32) (e : IVec S512x1 32) (b : BitVec 32) (i : S512x1.Idx) :
    stepV v e b i = step (v i) (e i) b := rfl

/-- The eight comparisons, on the vector of rows. -/
def searchV (v : FVec Ideal S512x1 .f32) : IVec S512x1 32 :=
  stepV v (stepV v (stepV v (stepV v (stepV v (stepV v (stepV v (stepV v (broadcast S512x1 0#32)
    1073741824#32) 536870912#32) 268435456#32) 134217728#32) 67108864#32) 33554432#32) 16777216#32) 8388608#32

theorem searchV_apply (v : FVec Ideal S512x1 .f32) (i : S512x1.Idx) : searchV v i = search (v i) := by
  unfold searchV search
  rw [stepV_apply, stepV_apply, stepV_apply, stepV_apply, stepV_apply, stepV_apply, stepV_apply, stepV_apply,
    show broadcast S512x1 0#32 i = 0#32 from rfl]

theorem pay8_eq (v : FVec Ideal S512x1 .f32) : k0_pay8 (F := Ideal) v k0_pay6 k0_pay7
    = select (cmpf .olt v (broadcast S512x1 (Scalar.ofBits .f32 0x7B800000#32))) (searchV v) (broadcast S512x1 2139095040#32) := rfl

theorem top_apply (v : FVec Ideal S512x1 .f32) (e : IVec S512x1 32) (i : S512x1.Idx) :
    select (cmpf .olt v (broadcast S512x1 (Scalar.ofBits (F := Ideal) .f32 0x7B800000#32))) e (broadcast S512x1 2139095040#32) i
      = Scalar.select (Ideal.cmp .olt (v i) (Ideal.ofBits .f32 0x7B800000#32)) (e i) 2139095040#32 := rfl

/-- The exponent field, at an index. -/
theorem pay8_apply (v : FVec Ideal S512x1 .f32) (i : S512x1.Idx) :
    k0_pay8 (F := Ideal) v k0_pay6 k0_pay7 i = field (v i) := by
  rw [pay8_eq, top_apply, searchV_apply, field]

theorem pay9_eq (v : FVec Ideal S512x1 .f32) (a b : IVec S512x1 32) : k0_pay9 (F := Ideal) v a b
    = cmpi .ult (subi (k0_pay8 v a b) (broadcast S512x1 8388608#32)) (broadcast S512x1 2130706432#32) := rfl

theorem subi_eq (a b : BitVec 32) : IntOp.subi a b = a - b := rfl
theorem addi_eq (a b : BitVec 32) : IntOp.addi a b = a + b := rfl

theorem pay11_of (e : IVec S512x1 32) (i : S512x1.Idx) :
    k0_pay11 e (cmpi .ult (subi e (broadcast S512x1 8388608#32)) (broadcast S512x1 2130706432#32)) k0_pay10 i
      = Scalar.select (IntOp.cmpi .ult (IntOp.subi (e i) 8388608#32) 2130706432#32) (IntOp.addi (e i) 8388608#32) 1065353216#32 := rfl

/-- The scale's words, at an index. -/
theorem pay11_apply (v : FVec Ideal S512x1 .f32) (i : S512x1.Idx) :
    k0_pay11 (k0_pay8 (F := Ideal) v k0_pay6 k0_pay7) (k0_pay9 v k0_pay6 k0_pay7) k0_pay10 i = pow (v i) := by
  rw [pay9_eq, pay11_of, pay8_apply, pow, subi_eq, addi_eq]

theorem pay12_of (e : IVec S512x1 32) (u : IVec S512x1 1) (f : IVec S512x1 32) (i : S512x1.Idx) :
    k0_pay12 (F := Ideal) e u f i = Ideal.ofBits .f32 (k0_pay11 e u f i) := rfl

/-- The scale, at an index. -/
theorem pay12_apply (v : FVec Ideal S512x1 .f32) (i : S512x1.Idx) :
    k0_pay12 (F := Ideal) (k0_pay8 v k0_pay6 k0_pay7) (k0_pay9 v k0_pay6 k0_pay7) k0_pay10 i = kScale (v i) := by
  rw [pay12_of, pay11_apply, kScale]

theorem bcast_apply (y : FVec Ideal S512x1 .f32) (r : Fin 512) (k : Fin 128) :
    broadcastTo S512x128 y broadcasts_S512x1_S512x128 (ix2 r k) = y (ix2 r 0) :=
  broadcastTo_apply _ _ _ _ fun a => match a with | ⟨0, _⟩ => rfl | ⟨1, _⟩ => rfl

theorem inv_of (g : IVec S512x1 32) (i : S512x1.Idx) :
    bitcastToFloat (F := Ideal) .f32 (subi (broadcast S512x1 2130706432#32) g) i
      = Ideal.ofBits .f32 (IntOp.subi 2130706432#32 (g i)) := rfl

theorem clip_of (x y : FVec Ideal S512x128 .f32) (i : S512x128.Idx) :
    truncf .fp8e4m3 (minimumf (broadcast S512x128 (Scalar.ofBits .f32 0x43E00000#32))
      (maximumf (broadcast S512x128 (Scalar.ofBits .f32 0xC3E00000#32)) (mulf x y))) bitsLt_fp8e4m3_f32 i
      = code (x i) (y i) := rfl

theorem pay13_of (x : FVec Ideal S512x128 .f32) (e : IVec S512x1 32) (u : IVec S512x1 1) (f : IVec S512x1 32)
    (r : Fin 512) (k : Fin 128) :
    k0_pay13 (F := Ideal) x e u f (ix2 r k)
      = code (x (ix2 r k)) (Ideal.ofBits .f32 (IntOp.subi 2130706432#32 (k0_pay11 e u f (ix2 r 0)))) := by
  unfold k0_pay13
  rw [clip_of, bcast_apply, inv_of]

end Cert.Proof.Kernel
-- ==== Proof.Block.lean ====
module

public import proofs.«01_k».proof.Proof.Words
public import Idealize.ShloMosaic.Lib.Pipeline.ValueKit
public import Idealize.ShloMosaic.Lib.MatmulPlain
public import Idealize.ShloMosaic.Lib.ValueIdx

/-!
The kernel body's two blocks over the extended reals, as formulas in the index.
-/

@[expose] public section

noncomputable section

namespace Cert.Proof.Kernel
open Idealize.ShloMosaic hiding ix1 ix2 ix3
open Idealize.ShloMosaic.ValueIdx Idealize.SL.Sem
open Cert.KernelIdeal Cert.KernelIdeal.Gen
open Cert.Proof.Scale Cert.Proof.Spec

/-- The constant that stands for `-1 / log 2`. -/
theorem neg_log2e_eq : Named.named (F := Ideal) κ "neg_log2e" (φ := .f32) 0xBFB8AA3B#32 = ((-((Real.log 2)⁻¹) : ℝ) : EReal) :=
  IdealRules.named_const.ideal_named_scalar _ _ _ _ rfl

/-- A chunk's product at a row and a column. -/
theorem dot_apply (X : FVec Ideal S512x2048 .fp8e4m3) (W : FVec Ideal S2048x256 .fp8e4m3) (r : Fin 512) (c : Fin 256) :
    matmul dot_S512x2048_S2048x256_S512x256_1_0_0_1_n_n none X W (constant S512x256 .f32 0x00000000#32) (ix2 r c)
      = ∑ k : Fin 2048, X (ix2 r k) * W (ix2 k c) := by
  refine (Ideal.matmul_plain_apply (M := 512) (K := 2048) (N := 256) none X W _ r c).trans ?_
  show Ideal.ofBits .f32 0x00000000#32 + _ = _
  rw [ofBits_zero, zero_add]

theorem row_apply (x : FVec Ideal S512x1 .f32) (r : Fin 512) (c : Fin 256) :
    broadcastTo S512x256 x broadcasts_S512x1_S512x256 (ix2 r c) = x (ix2 r 0) :=
  broadcastTo_apply _ _ _ _ fun a => match a with | ⟨0, _⟩ => rfl | ⟨1, _⟩ => rfl

theorem col_apply (x : FVec Ideal S1x256 .f32) (r : Fin 512) (c : Fin 256) :
    broadcastTo S512x256 x broadcasts_S1x256_S512x256 (ix2 r c) = x (ix2 0 c) :=
  broadcastTo_apply _ _ _ _ fun a => match a with | ⟨0, _⟩ => rfl | ⟨1, _⟩ => rfl

theorem cast_self {s : Shape} {α : Type} (x : s.Idx → α) (h : s.ShapeCasts s) : shapeCast s x h = x :=
  funext fun i => shapeCast_apply x h i i rfl

/-- The hidden chunk at a row and a column. -/
theorem pay3_apply (X : FVec Ideal S512x2048 .fp8e4m3) (xs : FVec Ideal S512x1 .f32) (wg wu : FVec Ideal S2048x256 .fp8e4m3)
    (sg su : FVec Ideal S1x256 .f32) (r : Fin 512) (c : Fin 256) :
    k0_pay3 (F := Ideal) X xs wg wu sg su (ix2 r c)
      = hid (∑ k : Fin 2048, X (ix2 r k) * wg (ix2 k c)) (∑ k : Fin 2048, X (ix2 r k) * wu (ix2 k c))
          (xs (ix2 r 0)) (sg (ix2 0 c)) (su (ix2 0 c)) := by
  unfold k0_pay3 k0_pay1 k0_pay2
  simp only [cast_self]
  unfold hid
  rw [← silu_eq]
  simp only [← dot_apply, ← row_apply xs r c, ← col_apply _ r c, ← ofBits_one, ← neg_log2e_eq]
  rfl

variable (x0 : Vec Ideal S512x2048 .fp8e4m3) (x1 : Vec Ideal S512x1 .f32) (x2 : Vec Ideal S2048x1792 .fp8e4m3)
    (x3 : Vec Ideal S1x1792 .f32) (x4 : Vec Ideal S2048x1792 .fp8e4m3) (x5 : Vec Ideal S1x1792 .f32)

/-- The hidden block at a row and a column. -/
def hidB (r : Fin 512) (c : Fin 1792) : EReal :=
  hid (∑ k : Fin 2048, x0 (ix2 r k) * x2 (ix2 k c)) (∑ k : Fin 2048, x0 (ix2 r k) * x4 (ix2 k c))
    (x1 (ix2 r 0)) (x3 (ix2 0 c)) (x5 (ix2 0 c))

/-- A load of 256 columns from column `o` on reads `o` columns further right. -/
theorem ld_cols {n : Nat} {e : EltTy} (x : (⟨2, ![n, 1792]⟩ : Shape).Idx → Elt Ideal e) (o : Nat)
    (h : ∀ a, (![0, o] : Fin 2 → Nat) a + (![n, 256] : Fin 2 → Nat) a ≤ (![n, 1792] : Fin 2 → Nat) a)
    (r : Fin n) (c : Fin 256) (c' : Fin 1792) (hc : c'.val = o + c.val) :
    View.ld x (Rect.unit (s := ⟨2, ![n, 1792]⟩) ![0, o] ![n, 256] h) (ix2 r c) = x (ix2 r c') := by
  rw [View.ld_unit]
  exact extractStridedSlice_apply _ _ _ _ _ fun a => match a with
    | ⟨0, _⟩ => (Nat.zero_add _).symm
    | ⟨1, _⟩ => hc

theorem hz : (![0, 0] : Fin 2 → Nat) = fun _ => 0 := funext fun a => by fin_cases a <;> rfl

/-- A chunk of the hidden block. -/
theorem chunk_apply (o : Nat) (h : ∀ a, (![0, o] : Fin 2 → Nat) a + S2048x256.size a ≤ S2048x1792.size a)
    (h' : ∀ a, (![0, o] : Fin 2 → Nat) a + S1x256.size a ≤ S1x1792.size a) (r : Fin 512) (c : Fin 256) (c' : Fin 1792)
    (hc : c'.val = o + c.val) :
    chunk (F := Ideal) x0 x1 x2 x3 x4 x5 o h h' (ix2 r c) = hidB x0 x1 x2 x3 x4 x5 r c' := by
  unfold chunk hidB
  rw [pay3_apply, View.ld_unit_zero hz, View.ld_unit_zero hz]
  have e2 : ∀ k, View.ld x2 (Rect.unit (s := S2048x1792) ![0, o] S2048x256.size h) (ix2 k c) = x2 (ix2 k c') :=
    fun k => ld_cols x2 o h k c c' hc
  have e4 : ∀ k, View.ld x4 (Rect.unit (s := S2048x1792) ![0, o] S2048x256.size h) (ix2 k c) = x4 (ix2 k c') :=
    fun k => ld_cols x4 o h k c c' hc
  have e3 : View.ld x3 (Rect.unit (s := S1x1792) ![0, o] S1x256.size h') (ix2 0 c) = x3 (ix2 0 c') :=
    ld_cols x3 o h' 0 c c' hc
  have e5 : View.ld x5 (Rect.unit (s := S1x1792) ![0, o] S1x256.size h') (ix2 0 c) = x5 (ix2 0 c') :=
    ld_cols x5 o h' 0 c c' hc
  simp only [e2, e4]
  rw [e3, e5]

/-- A group's amplitude, from its values in a row. -/
theorem ampV_apply (x : FVec Ideal S512x128 .f32) (r : Fin 512) : ampV x (ix2 r 0) = amp fun k => x (ix2 r k) := by
  have e : shapeCast S512x1 (multiReduction .maximumf [1] S512 (absf x) 0xFF800000#32 reduces_S512x128_S512 (.inl rfl) rfl)
      shapeCasts_S512_S512x1 (ix2 r 0) = largest fun k => x (ix2 r k) := by
    refine (shapeCast_apply _ _ (ix2 r 0) (ix1 r) ?_).trans ?_
    · rw [Shape.rowMajor_val_one, Shape.rowMajor_val_two]
      show r.val = r.val * 1 + 0
      omega
    · refine (Ideal.multiReduction_maximumf_single _ _ _ _ _ _).trans ?_
      unfold largest
      refine congrArg (fun f => Finset.univ.fold max (Ideal.ofBits .f32 0xFF800000#32) f) (funext fun k => ?_)
      have : reduces_S512x128_S512.lift (ix1 r) k = ix2 r k := by
        funext a; match a with | ⟨0, _⟩ => rfl | ⟨1, _⟩ => rfl
      show max (x (reduces_S512x128_S512.lift (ix1 r) k)) (-(x (reduces_S512x128_S512.lift (ix1 r) k))) = _
      rw [this]
      rfl
  have e' : ampV x (ix2 r 0) = max (amp fun k => x (ix2 r k)) (-(amp fun k => x (ix2 r k))) := by
    unfold amp
    rw [← e]
    rfl
  rw [e', abs_of_nonneg (amp_nonneg _)]

/-- A group's scale in a row. -/
theorem scaleV_apply (x : FVec Ideal S512x128 .f32) (r : Fin 512) :
    scaleV x (ix2 r 0) = rScale (amp fun k => x (ix2 r k)) := by
  have e : scaleV x (ix2 r 0) = kScale (ampV x (ix2 r 0)) := pay12_apply _ _
  rw [e, ampV_apply, (scale_eq (amp_nonneg _)).1]

/-- A group's code in a row and a column. -/
theorem codesV_apply (x : FVec Ideal S512x128 .f32) (r : Fin 512) (k : Fin 128) :
    codesV x (ix2 r k) = code (x (ix2 r k)) (rInv (amp fun k => x (ix2 r k))) := by
  unfold codesV
  rw [pay13_of, subi_eq, pay11_apply, ampV_apply, ← (scale_eq (amp_nonneg _)).2, kInv]

theorem lo_apply (x : FVec Ideal S512x256 .f32) (r : Fin 512) (k : Fin 128) : lo x (ix2 r k) = x (ix2 r ⟨k.val, by omega⟩) :=
  extractStridedSlice_apply _ _ _ _ _ fun a => match a with
    | ⟨0, _⟩ => (Nat.zero_add _).symm
    | ⟨1, _⟩ => (Nat.zero_add _).symm

theorem hi_apply (x : FVec Ideal S512x256 .f32) (r : Fin 512) (k : Fin 128) : hi x (ix2 r k) = x (ix2 r ⟨128 + k.val, by omega⟩) :=
  extractStridedSlice_apply _ _ _ _ _ fun a => match a with
    | ⟨0, _⟩ => (Nat.zero_add _).symm
    | ⟨1, _⟩ => rfl

/-- What makes `x` group `j` of the block. -/
def IsGroup (x : FVec Ideal S512x128 .f32) (j : Nat) : Prop :=
  ∀ (hj : j < 14) (r : Fin 512) (k : Fin 128),
    x (ix2 r k) = hidB x0 x1 x2 x3 x4 x5 r ⟨128 * j + k.val, by omega⟩

theorem isGroup_lo (o j : Nat) (hj : o = 128 * j) (h h') :
    IsGroup x0 x1 x2 x3 x4 x5 (lo (chunk (F := Ideal) x0 x1 x2 x3 x4 x5 o h h')) j := fun _ r k => by
  rw [lo_apply]
  exact chunk_apply x0 x1 x2 x3 x4 x5 o h h' r _ _ (by show 128 * j + k.val = o + k.val; omega)

theorem isGroup_hi (o j : Nat) (hj : o + 128 = 128 * j) (h h') :
    IsGroup x0 x1 x2 x3 x4 x5 (hi (chunk (F := Ideal) x0 x1 x2 x3 x4 x5 o h h')) j := fun _ r k => by
  rw [hi_apply]
  exact chunk_apply x0 x1 x2 x3 x4 x5 o h h' r _ _ (by show 128 * j + k.val = o + (128 + k.val); omega)

/-- A group's codes are the block's, at the group's columns. -/
theorem codes_piece {x : FVec Ideal S512x128 .f32} {j : Nat} (hx : IsGroup x0 x1 x2 x3 x4 x5 x j) (hj : j < 14)
    (o : Nat) (ho : o = 128 * j) (inb : ∀ a, (![0, o] : Fin 2 → Nat) a + S512x128.size a ≤ S512x1792.size a) (y : S512x128.Idx) :
    codesV x y = codeOf (hidB x0 x1 x2 x3 x4 x5) ((Rect.unit (s := S512x1792) ![0, o] S512x128.size inb).emb y 0)
      ((Rect.unit (s := S512x1792) ![0, o] S512x128.size inb).emb y 1) := by
  obtain ⟨r, k, rfl⟩ : ∃ (r : Fin 512) (k : Fin 128), y = ix2 r k := ⟨y 0, y 1, ValueIdx.eq_ix2 y⟩
  have hr : (Rect.unit (s := S512x1792) ![0, o] S512x128.size inb).emb (ix2 r k) 0 = r :=
    Fin.ext (by show 0 + 1 * r.val = r.val; omega)
  have hc : (Rect.unit (s := S512x1792) ![0, o] S512x128.size inb).emb (ix2 r k) 1 = (⟨128 * j + k.val, by omega⟩ : Fin 1792) :=
    Fin.ext (by show o + 1 * k.val = 128 * j + k.val; omega)
  rw [hr, hc, codesV_apply]
  unfold codeOf grp
  have hd : (128 * j + k.val) / 128 = j := by omega
  rw [hx hj]
  simp only [hx hj, hd]

/-- A group's scales are the block's, at the group's column. -/
theorem scale_piece {x : FVec Ideal S512x128 .f32} {j : Nat} (hx : IsGroup x0 x1 x2 x3 x4 x5 x j) (hj : j < 14)
    (inb : ∀ a, (![0, j] : Fin 2 → Nat) a + S512x1.size a ≤ S512x14.size a) (y : S512x1.Idx) :
    scaleV x y = scaleOf (hidB x0 x1 x2 x3 x4 x5) ((Rect.unit (s := S512x14) ![0, j] S512x1.size inb).emb y 0)
      ((Rect.unit (s := S512x14) ![0, j] S512x1.size inb).emb y 1) := by
  obtain ⟨r, k, rfl⟩ : ∃ (r : Fin 512) (k : Fin 1), y = ix2 r k := ⟨y 0, y 1, ValueIdx.eq_ix2 y⟩
  obtain rfl : k = 0 := Subsingleton.elim _ _
  have hr : (Rect.unit (s := S512x14) ![0, j] S512x1.size inb).emb (ix2 r 0) 0 = r :=
    Fin.ext (by show 0 + 1 * r.val = r.val; omega)
  have hc : (Rect.unit (s := S512x14) ![0, j] S512x1.size inb).emb (ix2 r 0) 1 = (⟨j, hj⟩ : Fin 14) :=
    Fin.ext (by show j + 1 * 0 = j; omega)
  rw [hr, hc, scaleV_apply]
  unfold scaleOf grp
  simp only [hx hj]

/-- The block of codes the body leaves. -/
theorem out6_apply (y : S512x1792.Idx) :
    out0_6 (F := Ideal) x0 x1 x2 x3 x4 x5 y = codeOf (hidB x0 x1 x2 x3 x4 x5) (y 0) (y 1) := by
  rw [out6_eq]
  refine View.canon_apply_of_pieces (Val := Elt Ideal) (fun y => codeOf (hidB x0 x1 x2 x3 x4 x5) (y 0) (y 1)) _ ?_ y (cover0_6 _ _ _ _ _ _ _ _ _ _ _ _ _ _ y)
  simp only [List.forall_mem_cons]
  refine ⟨codes_piece x0 x1 x2 x3 x4 x5 (isGroup_hi x0 x1 x2 x3 x4 x5 1536 13 rfl _ _) (by omega) _ rfl _,
    codes_piece x0 x1 x2 x3 x4 x5 (isGroup_lo x0 x1 x2 x3 x4 x5 1536 12 rfl _ _) (by omega) _ rfl _,
    codes_piece x0 x1 x2 x3 x4 x5 (isGroup_hi x0 x1 x2 x3 x4 x5 1280 11 rfl _ _) (by omega) _ rfl _,
    codes_piece x0 x1 x2 x3 x4 x5 (isGroup_lo x0 x1 x2 x3 x4 x5 1280 10 rfl _ _) (by omega) _ rfl _,
    codes_piece x0 x1 x2 x3 x4 x5 (isGroup_hi x0 x1 x2 x3 x4 x5 1024 9 rfl _ _) (by omega) _ rfl _,
    codes_piece x0 x1 x2 x3 x4 x5 (isGroup_lo x0 x1 x2 x3 x4 x5 1024 8 rfl _ _) (by omega) _ rfl _,
    codes_piece x0 x1 x2 x3 x4 x5 (isGroup_hi x0 x1 x2 x3 x4 x5 768 7 rfl _ _) (by omega) _ rfl _,
    codes_piece x0 x1 x2 x3 x4 x5 (isGroup_lo x0 x1 x2 x3 x4 x5 768 6 rfl _ _) (by omega) _ rfl _,
    codes_piece x0 x1 x2 x3 x4 x5 (isGroup_hi x0 x1 x2 x3 x4 x5 512 5 rfl _ _) (by omega) _ rfl _,
    codes_piece x0 x1 x2 x3 x4 x5 (isGroup_lo x0 x1 x2 x3 x4 x5 512 4 rfl _ _) (by omega) _ rfl _,
    codes_piece x0 x1 x2 x3 x4 x5 (isGroup_hi x0 x1 x2 x3 x4 x5 256 3 rfl _ _) (by omega) _ rfl _,
    codes_piece x0 x1 x2 x3 x4 x5 (isGroup_lo x0 x1 x2 x3 x4 x5 256 2 rfl _ _) (by omega) _ rfl _,
    codes_piece x0 x1 x2 x3 x4 x5 (isGroup_hi x0 x1 x2 x3 x4 x5 0 1 rfl _ _) (by omega) _ rfl _,
    codes_piece x0 x1 x2 x3 x4 x5 (isGroup_lo x0 x1 x2 x3 x4 x5 0 0 rfl _ _) (by omega) _ rfl _,
    fun _ h => absurd h List.not_mem_nil⟩

/-- The block of scales the body leaves. -/
theorem out7_apply (y : S512x14.Idx) :
    out0_7 (F := Ideal) x0 x1 x2 x3 x4 x5 y = scaleOf (hidB x0 x1 x2 x3 x4 x5) (y 0) (y 1) := by
  rw [out7_eq]
  refine View.canon_apply_of_pieces (Val := Elt Ideal) (fun y => scaleOf (hidB x0 x1 x2 x3 x4 x5) (y 0) (y 1)) _ ?_ y (cover0_7 _ _ _ _ _ _ _ _ _ _ _ _ _ _ y)
  simp only [List.forall_mem_cons]
  refine ⟨scale_piece x0 x1 x2 x3 x4 x5 (isGroup_hi x0 x1 x2 x3 x4 x5 1536 13 rfl _ _) (by omega) _,
    scale_piece x0 x1 x2 x3 x4 x5 (isGroup_lo x0 x1 x2 x3 x4 x5 1536 12 rfl _ _) (by omega) _,
    scale_piece x0 x1 x2 x3 x4 x5 (isGroup_hi x0 x1 x2 x3 x4 x5 1280 11 rfl _ _) (by omega) _,
    scale_piece x0 x1 x2 x3 x4 x5 (isGroup_lo x0 x1 x2 x3 x4 x5 1280 10 rfl _ _) (by omega) _,
    scale_piece x0 x1 x2 x3 x4 x5 (isGroup_hi x0 x1 x2 x3 x4 x5 1024 9 rfl _ _) (by omega) _,
    scale_piece x0 x1 x2 x3 x4 x5 (isGroup_lo x0 x1 x2 x3 x4 x5 1024 8 rfl _ _) (by omega) _,
    scale_piece x0 x1 x2 x3 x4 x5 (isGroup_hi x0 x1 x2 x3 x4 x5 768 7 rfl _ _) (by omega) _,
    scale_piece x0 x1 x2 x3 x4 x5 (isGroup_lo x0 x1 x2 x3 x4 x5 768 6 rfl _ _) (by omega) _,
    scale_piece x0 x1 x2 x3 x4 x5 (isGroup_hi x0 x1 x2 x3 x4 x5 512 5 rfl _ _) (by omega) _,
    scale_piece x0 x1 x2 x3 x4 x5 (isGroup_lo x0 x1 x2 x3 x4 x5 512 4 rfl _ _) (by omega) _,
    scale_piece x0 x1 x2 x3 x4 x5 (isGroup_hi x0 x1 x2 x3 x4 x5 256 3 rfl _ _) (by omega) _,
    scale_piece x0 x1 x2 x3 x4 x5 (isGroup_lo x0 x1 x2 x3 x4 x5 256 2 rfl _ _) (by omega) _,
    scale_piece x0 x1 x2 x3 x4 x5 (isGroup_hi x0 x1 x2 x3 x4 x5 0 1 rfl _ _) (by omega) _,
    scale_piece x0 x1 x2 x3 x4 x5 (isGroup_lo x0 x1 x2 x3 x4 x5 0 0 rfl _ _) (by omega) _,
    fun _ h => absurd h List.not_mem_nil⟩

end Cert.Proof.Kernel
-- ==== Proof.Layout.lean ====
module

public import Idealize.ShloMosaic.Lib.Pipeline.ValueKit

/-!
Reshapes that only regroup the axes, read at an index.
-/

@[expose] public section

noncomputable section

namespace Cert.Proof.Layout
open Idealize.ShloMosaic hiding ix1 ix2 ix3
open Idealize.ShloMosaic.ValueIdx

variable {α : Type}

/-- Dropping a leading axis of length one. -/
theorem drop_one {M K : Nat} (v : (⟨3, ![1, M, K]⟩ : Shape).Idx → α) (h) (r : Fin M) (k : Fin K) :
    shapeCast ⟨2, ![M, K]⟩ v h (ix2 r k) = v (ix3 0 r k) := by
  refine shapeCast_apply _ _ _ _ ?_
  rw [Shape.rowMajor_val_three, Shape.rowMajor_val_two]
  show (0 * M + r.val) * K + k.val = r.val * K + k.val
  rw [Nat.zero_mul, Nat.zero_add]

/-- A vector as one row. -/
theorem one_row {N : Nat} (v : (⟨1, ![N]⟩ : Shape).Idx → α) (h) (c : Fin N) :
    shapeCast ⟨2, ![1, N]⟩ v h (ix2 0 c) = v (ix1 c) := by
  refine shapeCast_apply _ _ _ _ ?_
  rw [Shape.rowMajor_val_one, Shape.rowMajor_val_two]
  show c.val = 0 * N + c.val
  rw [Nat.zero_mul, Nat.zero_add]

/-- A trailing axis of length one. -/
theorem add_one {M K : Nat} (v : (⟨2, ![M, K]⟩ : Shape).Idx → α) (h) (r : Fin M) (k : Fin K) :
    shapeCast ⟨3, ![M, K, 1]⟩ v h (ix3 r k 0) = v (ix2 r k) := by
  refine shapeCast_apply _ _ _ _ ?_
  rw [Shape.rowMajor_val_three, Shape.rowMajor_val_two]
  show r.val * K + k.val = (r.val * K + k.val) * 1 + 0
  omega

/-- A row of 1792 columns as 14 groups of 128. -/
theorem split {M : Nat} (v : (⟨2, ![M, 1792]⟩ : Shape).Idx → α) (h) (r : Fin M) (j : Fin 14) (k : Fin 128) :
    shapeCast ⟨3, ![M, 14, 128]⟩ v h (ix3 r j k) = v (ix2 r ⟨128 * j.val + k.val, by omega⟩) := by
  refine shapeCast_apply _ _ _ _ ?_
  rw [Shape.rowMajor_val_three, Shape.rowMajor_val_two]
  show r.val * 1792 + (128 * j.val + k.val) = (r.val * 14 + j.val) * 128 + k.val
  omega

/-- The groups joined back into a row of 1792 columns. -/
theorem join {M : Nat} (v : (⟨3, ![M, 14, 128]⟩ : Shape).Idx → α) (h) (r : Fin M) (c : Fin 1792) :
    shapeCast ⟨2, ![M, 1792]⟩ v h (ix2 r c)
      = v (ix3 r ⟨c.val / 128, by omega⟩ ⟨c.val % 128, Nat.mod_lt _ (by decide)⟩) := by
  refine shapeCast_apply _ _ _ _ ?_
  rw [Shape.rowMajor_val_three, Shape.rowMajor_val_two]
  show (r.val * 14 + c.val / 128) * 128 + c.val % 128 = r.val * 1792 + c.val
  omega

end Cert.Proof.Layout
-- ==== Proof.KernelValue.lean ====
module

public import proofs.«01_k».proof.Proof.Block
public import proofs.«01_k».proof.Proof.Layout
public import proofs.«01_k».proof.Proof.Gen.KernelIdeal.Value
public import Idealize.ShloMosaic.Lib.Claim

/-!
The kernel's two result arrays as formulas in the argument arrays.
-/

@[expose] public section

noncomputable section

namespace Cert.Proof.Kernel
open Idealize.ShloMosaic hiding ix1 ix2 ix3
open Idealize.ShloMosaic.ValueIdx Idealize.ShloMosaic.TcCoe Idealize.SL.Sem
open Cert.KernelIdeal Cert.KernelIdeal.Gen Cert.KernelIdeal.Value
open Cert.Proof.Scale Cert.Proof.Spec

variable (m : (ℓ : Loc nD τ sig) → Buf (Elt Ideal) ℓ) (ρ : Dev nD → PrngReg)

/-! ### The arrays the windows stage -/

theorem V0 (c : Dev nD) : V m c main_v0
    = shapeCast S4096x2048 (m ((c : Thread nD τ).loc main_arg0)) shapeCasts_S1x4096x2048_S4096x2048 := by
  entry_read
  rfl

theorem V1 (c : Dev nD) : V m c main_v1
    = shapeCast S4096x1 (m ((c : Thread nD τ).loc main_arg1)) shapeCasts_S1x4096x1_S4096x1 := by
  entry_read
  rfl

theorem V2 (c : Dev nD) : V m c main_v2
    = shapeCast S1x1792 (m ((c : Thread nD τ).loc main_arg3)) shapeCasts_S1792_S1x1792 := by
  entry_read
  rfl

theorem V3 (c : Dev nD) : V m c main_v3
    = shapeCast S1x1792 (m ((c : Thread nD τ).loc main_arg5)) shapeCasts_S1792_S1x1792 := by
  entry_read
  rfl

/-! ### The windows' blocks -/

/-- Row `r` of grid point `t`'s block, in the whole array. -/
def row (t : Fin cfg0.N) (r : Fin 512) : Fin 4096 := ⟨512 * t.val + r.val, by have := t.isLt; have : cfg0.N = 8 := rfl; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem emb0 (t : Fin cfg0.N) (r : Fin 512) (k : Fin 2048) :
    ((cfg0.win 0).blk t).view.emb (ix2 r k : S512x2048.Idx) = (ix2 (row t r) k : S4096x2048.Idx) := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 2048 + 1 * k.val = k.val; omega

theorem emb1 (t : Fin cfg0.N) (r : Fin 512) (k : Fin 1) :
    ((cfg0.win 1).blk t).view.emb (ix2 r k : S512x1.Idx) = (ix2 (row t r) k : S4096x1.Idx) := by
  obtain ⟨e0, e1⟩ := idx1 t
  funext a; apply Fin.ext
  match a with
  | ⟨0, _⟩ => show win0_1.index t (0 : Fin 2) * 512 + 1 * r.val = 512 * t.val + r.val; omega
  | ⟨1, _⟩ => show win0_1.index t (1 : Fin 2) * 1 + 1 * k.val = k.val; omega

theorem emb2 (t : Fin cfg0.N) (r : Fin 2048) (k : Fin 1792) :
    ((cfg0.win 2).blk t).view.emb (ix2 r k : S2048x1792.Idx) = (ix2 r k : S2048x1792.Idx) := by
  obtain ⟨e0, e1⟩ := idx2 t
  funext a; apply Fin.ext
  match a with
  | ⟨0, _⟩ => show win0_2.index t (0 : Fin 2) * 2048 + 1 * r.val = r.val; omega
  | ⟨1, _⟩ => show win0_2.index t (1 : Fin 2) * 1792 + 1 * k.val = k.val; omega

theorem emb3 (t : Fin cfg0.N) (r : Fin 1) (k : Fin 1792) :
    ((cfg0.win 3).blk t).view.emb (ix2 r k : S1x1792.Idx) = (ix2 r k : S1x1792.Idx) := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 1792 + 1 * k.val = k.val; omega

theorem emb4 (t : Fin cfg0.N) (r : Fin 2048) (k : Fin 1792) :
    ((cfg0.win 4).blk t).view.emb (ix2 r k : S2048x1792.Idx) = (ix2 r k : S2048x1792.Idx) := by
  obtain ⟨e0, e1⟩ := idx4 t
  funext a; apply Fin.ext
  match a with
  | ⟨0, _⟩ => show win0_4.index t (0 : Fin 2) * 2048 + 1 * r.val = r.val; omega
  | ⟨1, _⟩ => show win0_4.index t (1 : Fin 2) * 1792 + 1 * k.val = k.val; omega

theorem emb5 (t : Fin cfg0.N) (r : Fin 1) (k : Fin 1792) :
    ((cfg0.win 5).blk t).view.emb (ix2 r k : S1x1792.Idx) = (ix2 r k : S1x1792.Idx) := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 1792 + 1 * k.val = k.val; omega

theorem emb6 (t : Fin cfg0.N) (r : Fin 512) (k : Fin 1792) :
    ((cfg0.win 6).blk t).view.emb (ix2 r k : S512x1792.Idx) = (ix2 (row t r) k : S4096x1792.Idx) := by
  obtain ⟨e0, e1⟩ := idx6 t
  funext a; apply Fin.ext
  match a with
  | ⟨0, _⟩ => show win0_6.index t (0 : Fin 2) * 512 + 1 * r.val = 512 * t.val + r.val; omega
  | ⟨1, _⟩ => show win0_6.index t (1 : Fin 2) * 1792 + 1 * k.val = k.val; omega

theorem emb7 (t : Fin cfg0.N) (r : Fin 512) (k : Fin 14) :
    ((cfg0.win 7).blk t).view.emb (ix2 r k : S512x14.Idx) = (ix2 (row t r) k : S4096x14.Idx) := by
  obtain ⟨e0, e1⟩ := idx7 t
  funext a; apply Fin.ext
  match a with
  | ⟨0, _⟩ => show win0_7.index t (0 : Fin 2) * 512 + 1 * r.val = 512 * t.val + r.val; omega
  | ⟨1, _⟩ => show win0_7.index t (1 : Fin 2) * 14 + 1 * k.val = k.val; omega

/-! ### The blocks' entries in the arguments -/

theorem iblk0 (c : Dev nD) (t : Fin cfg0.N) (r : Fin 512) (k : Fin 2048) :
    iblk m c 0 t (ix2 r k : S512x2048.Idx) = m ((c : Thread nD τ).loc main_arg0) (ix3 0 (row t r) k : S1x4096x2048.Idx) := by
  show V m c main_v0 (((cfg0.win 0).blk t).view.emb (ix2 r k : S512x2048.Idx)) = _
  rw [emb0, V0]
  exact Layout.drop_one _ _ (row t r) k

theorem iblk1 (c : Dev nD) (t : Fin cfg0.N) (r : Fin 512) :
    iblk m c 1 t (ix2 r 0 : S512x1.Idx) = m ((c : Thread nD τ).loc main_arg1) (ix3 0 (row t r) 0 : S1x4096x1.Idx) := by
  show V m c main_v1 (((cfg0.win 1).blk t).view.emb (ix2 r 0 : S512x1.Idx)) = _
  rw [emb1, V1]
  exact Layout.drop_one _ _ (row t r) 0

theorem iblk2 (c : Dev nD) (t : Fin cfg0.N) (k : Fin 2048) (n : Fin 1792) :
    iblk m c 2 t (ix2 k n : S2048x1792.Idx) = m ((c : Thread nD τ).loc main_arg2) (ix2 k n : S2048x1792.Idx) := by
  show V m c main_arg2 (((cfg0.win 2).blk t).view.emb (ix2 k n : S2048x1792.Idx)) = _
  rw [emb2, V_main_arg2]

theorem iblk3 (c : Dev nD) (t : Fin cfg0.N) (n : Fin 1792) :
    iblk m c 3 t (ix2 0 n : S1x1792.Idx) = m ((c : Thread nD τ).loc main_arg3) (ix1 n : S1792.Idx) := by
  show V m c main_v2 (((cfg0.win 3).blk t).view.emb (ix2 0 n : S1x1792.Idx)) = _
  rw [emb3, V2]
  exact Layout.one_row _ _ n

theorem iblk4 (c : Dev nD) (t : Fin cfg0.N) (k : Fin 2048) (n : Fin 1792) :
    iblk m c 4 t (ix2 k n : S2048x1792.Idx) = m ((c : Thread nD τ).loc main_arg4) (ix2 k n : S2048x1792.Idx) := by
  show V m c main_arg4 (((cfg0.win 4).blk t).view.emb (ix2 k n : S2048x1792.Idx)) = _
  rw [emb4, V_main_arg4]

theorem iblk5 (c : Dev nD) (t : Fin cfg0.N) (n : Fin 1792) :
    iblk m c 5 t (ix2 0 n : S1x1792.Idx) = m ((c : Thread nD τ).loc main_arg5) (ix1 n : S1792.Idx) := by
  show V m c main_v3 (((cfg0.win 5).blk t).view.emb (ix2 0 n : S1x1792.Idx)) = _
  rw [emb5, V3]
  exact Layout.one_row _ _ n

/-- The hidden values on core `c`, from the arguments as launched. -/
def hidM (c : Dev nD) : Fin 4096 → Fin 1792 → EReal :=
  hidA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The hidden block at a grid point is 512 rows of the hidden array. -/
theorem hidB_eq (c : Dev nD) (t : Fin cfg0.N) (r : Fin 512) (n : Fin 1792) :
    hidB (iblk m c 0 t) (iblk m c 1 t) (iblk m c 2 t) (iblk m c 3 t) (iblk m c 4 t) (iblk m c 5 t) r n
      = hidM m c (row t r) n := by
  unfold hidB hidM hidA
  have e0 := iblk0 m c t r
  have e2 := fun k => iblk2 m c t k n
  have e4 := fun k => iblk4 m c t k n
  refine congr (congr (congr (congr (congrArg hid ?_) ?_) ?_) ?_) ?_
  · exact Finset.sum_congr rfl fun k _ => congrArg₂ (· * ·) (e0 k) (e2 k)
  · exact Finset.sum_congr rfl fun k _ => congrArg₂ (· * ·) (e0 k) (e4 k)
  · exact iblk1 m c t r
  · exact iblk3 m c t n
  · exact iblk5 m c t n

/-! ### The result arrays -/

/-- A group only reads its own row. -/
theorem grp_congr {n n' : Nat} {h : Fin n → Fin 1792 → EReal} {h' : Fin n' → Fin 1792 → EReal} {r : Fin n} {r' : Fin n'}
    (e : ∀ c, h r c = h' r' c) (j : Fin 14) : grp h r j = grp h' r' j := funext fun _ => e _

theorem codeOf_congr {n n' : Nat} {h : Fin n → Fin 1792 → EReal} {h' : Fin n' → Fin 1792 → EReal} {r : Fin n} {r' : Fin n'}
    (e : ∀ c, h r c = h' r' c) : codeOf h r = codeOf h' r' := by
  funext c
  unfold codeOf
  rw [grp_congr e, e c]

theorem scaleOf_congr {n n' : Nat} {h : Fin n → Fin 1792 → EReal} {h' : Fin n' → Fin 1792 → EReal} {r : Fin n} {r' : Fin n'}
    (e : ∀ c, h r c = h' r' c) : scaleOf h r = scaleOf h' r' := by
  funext j
  unfold scaleOf
  rw [grp_congr e]

/-- The codes. -/
def codesM (c : Dev nD) : S4096x1792.Idx → EReal := fun y => codeOf (hidM m c) (y 0) (y 1)

/-- The scales. -/
def scalesM (c : Dev nD) : S4096x14.Idx → EReal := fun y => scaleOf (hidM m c) (y 0) (y 1)

theorem covers6 : (cfg0.win 6).Covers := by decide +kernel
theorem covers7 : (cfg0.win 7).Covers := by decide +kernel

theorem final6 (c : Dev nD) : (dats m 0 c).arrAt 6 cfg0.N = codesM m c := by
  refine (dats m 0 c).arrAt_eq_of_covers 6 _ covers6 fun t hf y => ?_
  obtain ⟨r, k, rfl⟩ : ∃ (r : Fin 512) (k : Fin 1792), y = (ix2 r k : S512x1792.Idx) := ⟨y 0, y 1, ValueIdx.eq_ix2 y⟩
  show (dats m 0 c).after 6 t (ix2 r k : S512x1792.Idx) = codesM m c (((cfg0.win 6).blk t).view.emb (ix2 r k : S512x1792.Idx))
  rw [after0_6, out6_apply, emb6]
  exact congrFun (codeOf_congr (fun n => hidB_eq m c t r n)) k

theorem final7 (c : Dev nD) : (dats m 0 c).arrAt 7 cfg0.N = scalesM m c := by
  refine (dats m 0 c).arrAt_eq_of_covers 7 _ covers7 fun t hf y => ?_
  obtain ⟨r, k, rfl⟩ : ∃ (r : Fin 512) (k : Fin 14), y = (ix2 r k : S512x14.Idx) := ⟨y 0, y 1, ValueIdx.eq_ix2 y⟩
  show (dats m 0 c).after 7 t (ix2 r k : S512x14.Idx) = scalesM m c (((cfg0.win 7).blk t).view.emb (ix2 r k : S512x14.Idx))
  rw [after0_7, out7_apply, emb7]
  exact congrFun (scaleOf_congr (fun n => hidB_eq m c t r n)) k

end Cert.Proof.Kernel
-- ==== Proof.ReferenceValue.lean ====
module

public import proofs.«01_k».proof.Proof.Spec
public import proofs.«01_k».proof.Proof.Layout
public import proofs.«01_k».proof.Proof.Gen.ReferenceIdeal.Value
public import Idealize.ShloMosaic.Lib.Pipeline.ValueKit
public import Idealize.ShloMosaic.Lib.MatmulPlain
public import Idealize.ShloMosaic.Lib.ValueIdx

/-!
The reference's two result arrays as formulas in the argument arrays.
-/

@[expose] public section

noncomputable section

namespace Cert.Proof.Reference
open Idealize.ShloMosaic hiding ix1 ix2 ix3
open Idealize.ShloMosaic.ValueIdx Idealize.SL.Sem
open Cert.ReferenceIdeal Cert.ReferenceIdeal.Gen Cert.ReferenceIdeal.Value
open Cert.Proof.Scale Cert.Proof.Spec

/-- A projection's sum at a row and a column. -/
theorem dot_apply (X : FVec Ideal S4096x2048 .fp8e4m3) (W : FVec Ideal S2048x1792 .fp8e4m3) (r : Fin 4096) (c : Fin 1792) :
    matmul dot_S4096x2048_S2048x1792_S4096x1792_1_0_0_1_n_n none X W (constant S4096x1792 .f32 0x00000000#32) (ix2 r c)
      = ∑ k : Fin 2048, X (ix2 r k) * W (ix2 k c) := by
  refine (Ideal.matmul_plain_apply (M := 4096) (K := 2048) (N := 1792) none X W _ r c).trans ?_
  show Ideal.ofBits .f32 0x00000000#32 + _ = _
  rw [ofBits_zero, zero_add]

theorem row_apply (x : FVec Ideal S4096x1 .f32) (r : Fin 4096) (c : Fin 1792) :
    broadcastTo S4096x1792 x broadcasts_S4096x1_S4096x1792 (ix2 r c) = x (ix2 r 0) :=
  broadcastTo_apply _ _ _ _ fun a => match a with | ⟨0, _⟩ => rfl | ⟨1, _⟩ => rfl

theorem col_apply (x : FVec Ideal S1x1792 .f32) (r : Fin 4096) (c : Fin 1792) :
    broadcastTo S4096x1792 x broadcasts_S1x1792_S4096x1792 (ix2 r c) = x (ix2 0 c) :=
  broadcastTo_apply _ _ _ _ fun a => match a with | ⟨0, _⟩ => rfl | ⟨1, _⟩ => rfl

theorem grp_apply (x : FVec Ideal S4096x14x1 .f32) (r : Fin 4096) (j : Fin 14) (k : Fin 128) :
    broadcastTo S4096x14x128 x broadcasts_S4096x14x1_S4096x14x128 (ix3 r j k) = x (ix3 r j 0) :=
  broadcastTo_apply _ _ _ _ fun a => match a with | ⟨0, _⟩ => rfl | ⟨1, _⟩ => rfl | ⟨2, _⟩ => rfl

variable (a0 : Vec Ideal S1x4096x2048 .fp8e4m3) (a1 : Vec Ideal S1x4096x1 .f32) (a2 : Vec Ideal S2048x1792 .fp8e4m3)
    (a3 : Vec Ideal S1792 .f32) (a4 : Vec Ideal S2048x1792 .fp8e4m3) (a5 : Vec Ideal S1792 .f32)

/-- The hidden array before it is cut into groups, from the operands with their axes regrouped. -/
theorem hid_apply (X : FVec Ideal S4096x2048 .fp8e4m3) (xs : FVec Ideal S4096x1 .f32) (wg wu : FVec Ideal S2048x1792 .fp8e4m3)
    (sg su : FVec Ideal S1x1792 .f32) (r : Fin 4096) (c : Fin 1792) :
    mulf (mulf
        (mulf (mulf (matmul dot_S4096x2048_S2048x1792_S4096x1792_1_0_0_1_n_n none X wg (constant S4096x1792 .f32 0x00000000#32))
          (broadcastTo S4096x1792 xs broadcasts_S4096x1_S4096x1792)) (broadcastTo S4096x1792 sg broadcasts_S1x1792_S4096x1792))
        (logistic (mulf (mulf (matmul dot_S4096x2048_S2048x1792_S4096x1792_1_0_0_1_n_n none X wg (constant S4096x1792 .f32 0x00000000#32))
          (broadcastTo S4096x1792 xs broadcasts_S4096x1_S4096x1792)) (broadcastTo S4096x1792 sg broadcasts_S1x1792_S4096x1792))))
        (mulf (mulf (matmul dot_S4096x2048_S2048x1792_S4096x1792_1_0_0_1_n_n none X wu (constant S4096x1792 .f32 0x00000000#32))
          (broadcastTo S4096x1792 xs broadcasts_S4096x1_S4096x1792)) (broadcastTo S4096x1792 su broadcasts_S1x1792_S4096x1792)) (ix2 r c)
      = hid (∑ k : Fin 2048, X (ix2 r k) * wg (ix2 k c)) (∑ k : Fin 2048, X (ix2 r k) * wu (ix2 k c))
          (xs (ix2 r 0)) (sg (ix2 0 c)) (su (ix2 0 c)) := by
  unfold hid
  simp only [← dot_apply, ← row_apply xs r c, ← col_apply _ r c]
  rfl

/-- The hidden array cut into groups. -/
theorem pay4_apply (r : Fin 4096) (j : Fin 14) (k : Fin 128) :
    k0_pay4 (F := Ideal) a0 a1 a2 a3 a4 a5 (ix3 r j k) = grp (hidA a0 a1 a2 a3 a4 a5) r j k := by
  unfold k0_pay4 grp hidA
  refine (Layout.split _ _ r j k).trans ?_
  refine (hid_apply _ _ _ _ _ _ r _).trans ?_
  refine congr (congr (congr (congr (congrArg hid ?_) ?_) ?_) ?_) ?_
  · exact Finset.sum_congr rfl fun k _ => congrArg₂ (· * ·) (Layout.drop_one _ _ r k) rfl
  · exact Finset.sum_congr rfl fun k _ => congrArg₂ (· * ·) (Layout.drop_one _ _ r k) rfl
  · exact Layout.drop_one _ _ r 0
  · exact Layout.one_row _ _ _
  · exact Layout.one_row _ _ _

/-- The largest magnitude along the last axis. -/
theorem largest_apply (x : FVec Ideal S4096x14x128 .f32) (r : Fin 4096) (j : Fin 14) :
    multiReduction .maximumf [2] S4096x14 (absf x) 0xFF800000#32 reduces_S4096x14x128_S4096x14 (.inl rfl) rfl (ix2 r j)
      = largest fun k => x (ix3 r j k) := by
  refine (Ideal.multiReduction_maximumf_single _ _ _ _ _ _).trans ?_
  unfold largest
  refine congrArg (fun f => Finset.univ.fold max (Ideal.ofBits .f32 0xFF800000#32) f) (funext fun k => ?_)
  have : reduces_S4096x14x128_S4096x14.lift (ix2 r j) k = ix3 r j k := by
    funext a; match a with | ⟨0, _⟩ => rfl | ⟨1, _⟩ => rfl | ⟨2, _⟩ => rfl
  show max (x (reduces_S4096x14x128_S4096x14.lift (ix2 r j) k)) (-(x (reduces_S4096x14x128_S4096x14.lift (ix2 r j) k))) = _
  rw [this]
  rfl

theorem amp_of (x : FVec Ideal S4096x14 .f32) (i : S4096x14.Idx) :
    mulf x (broadcast S4096x14 (Scalar.ofBits .f32 0x3B124925#32)) i = x i * Ideal.ofBits .f32 0x3B124925#32 := rfl

theorem exp2_of (x : FVec Ideal S4096x14 .f32) (i : S4096x14.Idx) : exp2 x i = Ideal.exp2 (x i) := rfl

/-- The amplitude of a group in a row. -/
theorem pay5_apply (r : Fin 4096) (j : Fin 14) :
    k0_pay5 (F := Ideal) a0 a1 a2 a3 a4 a5 (ix2 r j) = amp (grp (hidA a0 a1 a2 a3 a4 a5) r j) := by
  unfold k0_pay5 amp
  rw [← funext (pay4_apply a0 a1 a2 a3 a4 a5 r j)]
  exact (amp_of _ _).trans (congrArg (· * Ideal.ofBits .f32 0x3B124925#32) (largest_apply (k0_pay4 (F := Ideal) a0 a1 a2 a3 a4 a5) r j))

/-- The exponent of a group in a row, from the amplitudes. -/
theorem exp_apply (v : FVec Ideal S4096x14 .f32) (i : S4096x14.Idx) :
    k0_pay1 (F := Ideal)
      (addf (floor (divf (log v) (broadcast S4096x14 (Scalar.log (Scalar.ofBits .f32 0x40000000#32)))))
        (broadcast S4096x14 (Scalar.ofBits .f32 0x3F800000#32)))
      (ori (cmpf .olt v (broadcast S4096x14 (Scalar.ofBits .f32 0x00800000#32)))
        (cmpf .oge v (broadcast S4096x14 (Scalar.ofBits .f32 0x7B800000#32)))) i = rExp (v i) := rfl

theorem exponent_apply (r : Fin 4096) (j : Fin 14) :
    k0_pay1 (F := Ideal) (k0_pay6 a0 a1 a2 a3 a4 a5) (k0_pay7 a0 a1 a2 a3 a4 a5) (ix2 r j)
      = rExp (amp (grp (hidA a0 a1 a2 a3 a4 a5) r j)) := by
  rw [← pay5_apply]
  exact exp_apply (k0_pay5 a0 a1 a2 a3 a4 a5) (ix2 r j)

/-- The scale of a group in a row. -/
theorem scale_apply (r : Fin 4096) (j : Fin 14) :
    k0_pay2 (F := Ideal) (k0_pay6 a0 a1 a2 a3 a4 a5) (k0_pay7 a0 a1 a2 a3 a4 a5) (ix2 r j)
      = scaleOf (hidA a0 a1 a2 a3 a4 a5) r j := by
  unfold k0_pay2 scaleOf rScale
  exact (exp2_of _ _).trans (congrArg Ideal.exp2 (exponent_apply a0 a1 a2 a3 a4 a5 r j))

/-- The codes from the groups' values and their exponents. -/
theorem quant_apply (h : FVec Ideal S4096x14x128 .f32) (e : FVec Ideal S4096x14 .f32) (r : Fin 4096) (j : Fin 14) (k : Fin 128) :
    (truncf .fp8e4m3 (minimumf (broadcast S4096x14x128 (Scalar.ofBits .f32 0x43E00000#32))
      (maximumf (broadcast S4096x14x128 (Scalar.ofBits .f32 0xC3E00000#32))
        (mulf h (broadcastTo S4096x14x128 (shapeCast S4096x14x1
          (exp2 (subf (broadcast S4096x14 (Scalar.ofBits .f32 0x00000000#32)) e)) shapeCasts_S4096x14_S4096x14x1)
          broadcasts_S4096x14x1_S4096x14x128)))) bitsLt_fp8e4m3_f32 : FVec Ideal S4096x14x128 .fp8e4m3) (ix3 r j k)
      = code (h (ix3 r j k)) (Ideal.exp2 (Ideal.ofBits .f32 0x00000000#32 - e (ix2 r j))) := by
  have e1 := (grp_apply (shapeCast S4096x14x1
    (exp2 (subf (broadcast S4096x14 (Scalar.ofBits .f32 0x00000000#32)) e)) shapeCasts_S4096x14_S4096x14x1) r j k).trans
    (Layout.add_one _ _ r j)
  exact congrArg (code (h (ix3 r j k))) e1

/-- The code at a row and a column. -/
theorem codes_apply (r : Fin 4096) (c : Fin 1792) :
    k0_pay3 (F := Ideal) (k0_pay4 a0 a1 a2 a3 a4 a5) (k0_pay6 a0 a1 a2 a3 a4 a5) (k0_pay7 a0 a1 a2 a3 a4 a5) (ix2 r c)
      = codeOf (hidA a0 a1 a2 a3 a4 a5) r c := by
  unfold k0_pay3 codeOf rInv
  refine (Layout.join _ _ r c).trans ?_
  refine (quant_apply _ _ r _ _).trans ?_
  rw [pay4_apply, exponent_apply]
  have hc : (⟨128 * (c.val / 128) + c.val % 128, by omega⟩ : Fin 1792) = c := Fin.ext (by show 128 * (c.val / 128) + c.val % 128 = c.val; omega)
  unfold grp
  simp only [hc]

/-- A load of a whole operand reads the operand. -/
theorem pay8_eq : k0_pay8 (F := Ideal) a0 a1 a2 a3 a4 a5 = k0_pay6 a0 a1 a2 a3 a4 a5 := by
  unfold k0_pay8
  rw [View.ld_unit_zero (S := S1x4096x2048) hz0 _ a0, View.ld_unit_zero (S := S1x4096x1) hz1 _ a1, View.ld_unit_zero (S := S2048x1792) hz2 _ a2, View.ld_unit_zero (S := S1792) hz3 _ a3, View.ld_unit_zero (S := S2048x1792) hz4 _ a4, View.ld_unit_zero (S := S1792) hz5 _ a5]

theorem pay9_eq : k0_pay9 (F := Ideal) a0 a1 a2 a3 a4 a5 = k0_pay7 a0 a1 a2 a3 a4 a5 := by
  unfold k0_pay9
  rw [View.ld_unit_zero (S := S1x4096x2048) hz0 _ a0, View.ld_unit_zero (S := S1x4096x1) hz1 _ a1, View.ld_unit_zero (S := S2048x1792) hz2 _ a2, View.ld_unit_zero (S := S1792) hz3 _ a3, View.ld_unit_zero (S := S2048x1792) hz4 _ a4, View.ld_unit_zero (S := S1792) hz5 _ a5]

theorem G6_eq : G6 (F := Ideal) a0 a1 a2 a3 a4 a5 = fun y : S4096x1792.Idx => codeOf (hidA a0 a1 a2 a3 a4 a5) (y 0) (y 1) := by
  funext y
  obtain ⟨r, k, rfl⟩ : ∃ (r : Fin 4096) (k : Fin 1792), y = (ix2 r k : S4096x1792.Idx) := ⟨y 0, y 1, ValueIdx.eq_ix2 y⟩
  unfold G6
  rw [pay8_eq, pay9_eq]
  exact codes_apply a0 a1 a2 a3 a4 a5 r k

theorem G7_eq : G7 (F := Ideal) a0 a1 a2 a3 a4 a5 = fun y : S4096x14.Idx => scaleOf (hidA a0 a1 a2 a3 a4 a5) (y 0) (y 1) := by
  funext y
  obtain ⟨r, k, rfl⟩ : ∃ (r : Fin 4096) (k : Fin 14), y = (ix2 r k : S4096x14.Idx) := ⟨y 0, y 1, ValueIdx.eq_ix2 y⟩
  unfold G7
  rw [pay8_eq, pay9_eq]
  exact scale_apply a0 a1 a2 a3 a4 a5 r k

end Cert.Proof.Reference
-- ==== Proof.Algebraic.lean ====
module

public import proofs.«01_k».proof.Defs
public import proofs.«01_k».proof.Proof.KernelValue
public import proofs.«01_k».proof.Proof.ReferenceValue

/-!
The kernel and the reference leave the same codes and the same scales; and the one constant the idealized kernel names.
-/

@[expose] public section

noncomputable section

namespace Cert.Proof
open Idealize.ShloMosaic Idealize.ShloMosaic.TcCoe Idealize.SL.Sem

/-- The bit pattern of the constant is the rounded value of the real number named in its place. -/
theorem preserves : Cert.preserves_Kernel_KernelIdeal :=
  IdealRules.named_const.statement Cert.KernelIdeal.κ "neg_log2e" .f32 0xBFB8AA3B#32 ((-((Real.log 2)⁻¹) : ℝ) : EReal) rfl

/-- On the same arguments both programs end with the codes and the scales of `Spec`. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Kernel.codesM m c, fun c => Kernel.scalesM m c, ?_, ?_⟩
  · refine θ_run_mono (Cert.KernelIdeal.Value.run_blocks m g) fun r h c => ?_
    obtain ⟨h0, h1, ha⟩ := h c
    exact ⟨h0.trans (Kernel.final6 m c), h1.trans (Kernel.final7 m c), ha⟩
  · refine θ_run_mono (Cert.ReferenceIdeal.Value.run m' g') fun r h c => ?_
    obtain ⟨h0, h1, ha⟩ := h c
    obtain ⟨e0, e1, e2, e3, e4, e5⟩ := hagree c
    refine ⟨h0.trans ?_, h1.trans ?_, ha⟩
    · rw [Reference.G6_eq, e0, e1, e2, e3, e4, e5]
      rfl
    · rw [Reference.G7_eq, e0, e1, e2, e3, e4, e5]
      rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ,
    preserves, algebraic⟩

end Cert.Proof

end
